-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x16x512x512 : Shape := ⟨4, ![8, 16, 512, 512]⟩
abbrev S128x512x512 : Shape := ⟨3, ![128, 512, 512]⟩
abbrev S2x512x512 : Shape := ⟨3, ![2, 512, 512]⟩
abbrev S1x64x512 : Shape := ⟨3, ![1, 64, 512]⟩
abbrev S64x512 : Shape := ⟨2, ![64, 512]⟩
abbrev S64x1 : Shape := ⟨2, ![64, 1]⟩
abbrev S64x511 : Shape := ⟨2, ![64, 511]⟩
abbrev S1x512 : Shape := ⟨2, ![1, 512]⟩
abbrev S63x512 : Shape := ⟨2, ![63, 512]⟩

abbrev nBuf : Space → Nat
  | .hbm => 4
  | .vmem => 4
  | .smem => 0
  | _ => 0

abbrev bufTy : (tb : Table) → Fin (tcTables nBuf tb) → BufTy
  | .hbm, ⟨0, _⟩ => ⟨S8x16x512x512, .f32⟩
  | .hbm, ⟨1, _⟩ => ⟨S128x512x512, .f32⟩
  | .hbm, ⟨2, _⟩ => ⟨S128x512x512, .f32⟩
  | .hbm, ⟨3, _⟩ => ⟨S8x16x512x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x16x512x512 : Shape := ⟨4, ![8, 16, 512, 512]⟩
abbrev S_ : Shape := ⟨0, ![]⟩
abbrev S8x16x1x512 : Shape := ⟨4, ![8, 16, 1, 512]⟩
abbrev S8x16x513x512 : Shape := ⟨4, ![8, 16, 513, 512]⟩
abbrev S8x16x514x512 : Shape := ⟨4, ![8, 16, 514, 512]⟩
abbrev S8x16x514x1 : Shape := ⟨4, ![8, 16, 514, 1]⟩
abbrev S8x16x514x513 : Shape := ⟨4, ![8, 16, 514, 513]⟩
abbrev S8x16x514x514 : Shape := ⟨4, ![8, 16, 514, 514]⟩
abbrev S8x16x512x512x1 : Shape := ⟨5, ![8, 16, 512, 512, 1]⟩
abbrev S8x16x512x512x9 : Shape := ⟨5, ![8, 16, 512, 512, 9]⟩

abbrev nBuf : Space → Nat
  | .hbm => 40
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S_, .i32⟩
  | .hbm, ⟨2, _⟩ => ⟨S8x16x1x512, .f32⟩
  | .hbm, ⟨3, _⟩ => ⟨S8x16x1x512, .f32⟩
  | .hbm, ⟨4, _⟩ => ⟨S8x16x1x512, .f32⟩
  | .hbm, ⟨5, _⟩ => ⟨S8x16x513x512, .f32⟩
  | .hbm, ⟨6, _⟩ => ⟨S8x16x1x512, .f32⟩
  | .hbm, ⟨7, _⟩ => ⟨S8x16x1x512, .f32⟩
  | .hbm, ⟨8, _⟩ => ⟨S8x16x1x512, .f32⟩
  | .hbm, ⟨9, _⟩ => ⟨S8x16x514x512, .f32⟩
  | .hbm, ⟨10, _⟩ => ⟨S8x16x514x1, .f32⟩
  | .hbm, ⟨11, _⟩ => ⟨S8x16x514x1, .f32⟩
  | .hbm, ⟨12, _⟩ => ⟨S8x16x514x1, .f32⟩
  | .hbm, ⟨13, _⟩ => ⟨S8x16x514x513, .f32⟩
  | .hbm, ⟨14, _⟩ => ⟨S8x16x514x1, .f32⟩
  | .hbm, ⟨15, _⟩ => ⟨S8x16x514x1, .f32⟩
  | .hbm, ⟨16, _⟩ => ⟨S8x16x514x1, .f32⟩
  | .hbm, ⟨17, _⟩ => ⟨S8x16x514x514, .f32⟩
  | .hbm, ⟨18, _⟩ => ⟨S8x16x512x512, .f32⟩
  | .hbm, ⟨19, _⟩ => ⟨S8x16x512x512, .f32⟩
  | .hbm, ⟨20, _⟩ => ⟨S8x16x512x512, .f32⟩
  | .hbm, ⟨21, _⟩ => ⟨S8x16x512x512, .f32⟩
  | .hbm, ⟨22, _⟩ => ⟨S8x16x512x512, .f32⟩
  | .hbm, ⟨23, _⟩ => ⟨S8x16x512x512, .f32⟩
  | .hbm, ⟨24, _⟩ => ⟨S8x16x512x512, .f32⟩
  | .hbm, ⟨25, _⟩ => ⟨S8x16x512x512, .f32⟩
  | .hbm, ⟨26, _⟩ => ⟨S8x16x512x512, .f32⟩
  | .hbm, ⟨27, _⟩ => ⟨S8x16x512x512x1, .f32⟩
  | .hbm, ⟨28, _⟩ => ⟨S8x16x512x512x1, .f32⟩
  | .hbm, ⟨29, _⟩ => ⟨S8x16x512x512x1, .f32⟩
  | .hbm, ⟨30, _⟩ => ⟨S8x16x512x512x1, .f32⟩
  | .hbm, ⟨31, _⟩ => ⟨S8x16x512x512x1, .f32⟩
  | .hbm, ⟨32, _⟩ => ⟨S8x16x512x512x1, .f32⟩
  | .hbm, ⟨33, _⟩ => ⟨S8x16x512x512x1, .f32⟩
  | .hbm, ⟨34, _⟩ => ⟨S8x16x512x512x1, .f32⟩
  | .hbm, ⟨35, _⟩ => ⟨S8x16x512x512x1, .f32⟩
  | .hbm, ⟨36, _⟩ => ⟨S8x16x512x512x9, .f32⟩
  | .hbm, ⟨37, _⟩ => ⟨S8x16x512x512x9, .f32⟩
  | .hbm, ⟨38, _⟩ => ⟨S8x16x512x512x1, .f32⟩
  | .hbm, ⟨39, _⟩ => ⟨S8x16x512x512, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Proof.KernelRun.lean ====
/- What a run of the kernel's program leaves in its result: the launch's output array, reshaped. -/
module

public import proofs.«01_k».proof.Defs
public import proofs.«01_k».proof.Proof.Gen.KernelIdeal
public import proofs.«01_k».proof.Proof.Gen.KernelIdeal.Frame

@[expose] public section

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The program's result is the launch's output array in the shape of the argument; the argument ends unchanged. -/
theorem run : θ_run (defs (F := Ideal)) (onTc (τ := τ) (main (F := Ideal))) ⟨m, fun _ => 0, ρ⟩ fun r => ∀ c : Dev nD,
      r.2.mem ((c.tc : Thread nD τ).loc main_v2) = shapeCast S8x16x512x512 ((dats m 0 c).arrAt 1 cfg0.N) shapeCasts_S128x512x512_S8x16x512x512
      ∧ r.2.mem ((c.tc : Thread nD τ).loc main_arg0) = m ((c.tc : Thread nD τ).loc main_arg0) := by
  refine (θ_run defs _ _).mono (fun r h c => ⟨?_, ?_⟩) (run_main m ρ)
  · refine ((h c).2 main_v2 (Pipeline.mem_restRefs_of main_v2 (by decide) (by decide))).trans ?_
    unfold Pipeline.afterTail₀ hostOps1
    simp only [List.flatten_cons, List.flatten_nil, List.append_nil, after_cons, after_nil]
    rw [reshape_result]
    have e := Pipeline.withArrays_arr (cfgs 0).spec (by decide) c (V0 m c) (fun w => (dats m 0 c).arrAt w (cfgs 0).N) 1
    exact congrArg (fun y => shapeCast S8x16x512x512 y shapeCasts_S128x512x512_S8x16x512x512) e
  · exact ((h c).2 main_arg0 (Pipeline.mem_restRefs_of main_arg0 (by decide) (by decide))).trans (W_main_arg0 m (dats m) c)

end Cert.KernelIdeal.Hand

end
-- ==== Proof.Median.lean ====
/- The order fact behind the kernel: its network of minima and maxima on nine values takes the one in the middle of their sorted order. -/
module

public import Idealize.ShloMosaic.Lib.SortFacts

@[expose] public section

namespace Cert.Median

open Idealize.ShloMosaic

variable {α : Type} [LinearOrder α]

/-- The least of three values. -/
def lo (a b c : α) : α := min (min a b) c
/-- The greatest of three values. -/
def hi (a b c : α) : α := max (max a b) c
/-- The middle one of three values. -/
def mid (a b c : α) : α := max (min a b) (min (max a b) c)

/-- The nine-value network: with each of three rows sorted, the middle one of the greatest least, the middle middle and
    the least greatest value. -/
def med9 (u₀ u₁ u₂ v₀ v₁ v₂ d₀ d₁ d₂ : α) : α :=
  mid (hi (lo u₀ u₁ u₂) (lo v₀ v₁ v₂) (lo d₀ d₁ d₂)) (mid (mid u₀ u₁ u₂) (mid v₀ v₁ v₂) (mid d₀ d₁ d₂))
    (lo (hi u₀ u₁ u₂) (hi v₀ v₁ v₂) (hi d₀ d₁ d₂))

/-- The network on truth values (`min` is "and", `max` is "or") is true when at least five of the nine are. -/
theorem med9_bool : ∀ b : Fin 9 → Bool,
    (med9 (b 0) (b 1) (b 2) (b 3) (b 4) (b 5) (b 6) (b 7) (b 8) = true ↔
      5 ≤ (Finset.univ.filter fun k => b k = true).card) := by
  decide +kernel

/-- A value lies at or below the network's result when it lies at or below at least five of the nine. -/
theorem le_med9 (x : Fin 9 → α) (t : α) :
    t ≤ med9 (x 0) (x 1) (x 2) (x 3) (x 4) (x 5) (x 6) (x 7) (x 8) ↔
      5 ≤ (Finset.univ.filter fun k => t ≤ x k).card := by
  have h := med9_bool fun k => decide (t ≤ x k)
  simp only [decide_eq_true_eq] at h
  rw [← h]
  simp only [med9, lo, hi, mid, le_min_iff, le_max_iff, Bool.max_eq_or, Bool.min_eq_and, Bool.or_eq_true,
    Bool.and_eq_true, decide_eq_true_eq]

/-- A value lies at or below the fifth of nine values in sorted order when it lies at or below at least five of them:
    the sorting places are a rearrangement, and later places hold no lesser value. -/
theorem le_sorted (x : Fin 9 → α) (σ : Fin 9 → Fin 9) (hσ : Function.Bijective σ)
    (hm : ∀ i j, i < j → x (σ i) ≤ x (σ j)) (t : α) :
    t ≤ x (σ 4) ↔ 5 ≤ (Finset.univ.filter fun k => t ≤ x k).card := by
  have hc : (Finset.univ.filter fun k => t ≤ x k).card = (Finset.univ.filter fun k => t ≤ x (σ k)).card := by
    refine (Finset.card_bij (fun k _ => σ k) (fun k hk => ?_) (fun a _ b _ h => hσ.1 h) fun b hb => ?_).symm
    · simpa using hk
    · obtain ⟨a, rfl⟩ := hσ.2 b
      exact ⟨a, by simpa using hb, rfl⟩
  have hm' : ∀ i j, i ≤ j → x (σ i) ≤ x (σ j) := fun i j h => h.eq_or_lt.elim (fun e => e ▸ le_rfl) (hm i j)
  rw [hc]
  constructor
  · intro h
    have hs : (Finset.univ.filter fun k : Fin 9 => 4 ≤ k) ⊆ Finset.univ.filter fun k => t ≤ x (σ k) := fun k hk => by
      simp only [Finset.mem_filter, Finset.mem_univ, true_and] at hk ⊢
      exact h.trans (hm' 4 k hk)
    exact le_trans (by decide) (Finset.card_le_card hs)
  · intro h
    by_contra hn
    have hs : (Finset.univ.filter fun k => t ≤ x (σ k)) ⊆ Finset.univ.filter fun k : Fin 9 => 4 < k := fun k hk => by
      simp only [Finset.mem_filter, Finset.mem_univ, true_and] at hk ⊢
      by_contra hk'
      exact hn (hk.trans (hm' k 4 (not_lt.mp hk')))
    exact absurd (h.trans (Finset.card_le_card hs)) (by decide)

/-- The value a stable sort of nine values puts at the fifth place is the network's result. -/
theorem sorted_eq_med9 (x : Fin 9 → α) :
    x (sortedFrom (fun k k' => decide (x k < x k')) 4) =
      med9 (x 0) (x 1) (x 2) (x 3) (x 4) (x 5) (x 6) (x 7) (x 8) := by
  refine eq_of_forall_le_iff fun t => ?_
  rw [le_med9]
  refine le_sorted x _ ⟨sortedFrom_injective _, sortedFrom_surjective _⟩ (fun i j hij => ?_) t
  have h := sortedFrom_noInversion (fun k k' => decide (x k < x k')) (fun k k' => decide (x k < x k'))
    (fun a b h => by simp only [decide_eq_true_eq, decide_eq_false_iff_not, not_lt] at h ⊢; exact h.le)
    (fun a b h => h)
    (fun a b c h₁ h₂ => by simp only [decide_eq_false_iff_not, not_lt] at h₁ h₂ ⊢; exact h₂.trans h₁) i j hij
  simpa using h

end Cert.Median

end
-- ==== Proof.Strip.lean ====
/- The kernel's arithmetic on one strip of 64 rows: three-value sorts along the rows, then across three neighbouring rows. -/
module

public import proofs.«01_k».proof.Proof.Gen.KernelIdeal
public import proofs.«01_k».proof.Proof.Gen.KernelIdeal.Frame
public import proofs.«01_k».proof.Proof.Median
public import Idealize.ShloMosaic.Lib.Pointwise

@[expose] public section

set_option maxRecDepth 16384

noncomputable section

namespace Cert.KernelIdeal.Hand

open Cert.KernelIdeal Cert.KernelIdeal.Gen Cert.Median Idealize.ShloMosaic Idealize.SL.Sem

/-! ## The operations of one strip, in the program's own vector operations -/

section vectors

variable {F : FTy → Type} [FloatOps F]

/-- A strip as loaded, without its unit image axis. -/
def rows (v : Vec F S1x64x512 .f32) : FVec F S64x512 .f32 := shapeCast S64x512 v shapeCasts_S1x64x512_S64x512
/-- The strip moved one column right: each place holds its left neighbour, the first column its right one. -/
def lefts (v : Vec F S1x64x512 .f32) : FVec F S64x512 .f32 :=
  concatenate S64x512 1 [⟨S64x1, extractStridedSlice S64x1 ![0, 1] (rows v) slices_S64x512_o0_1_S64x1⟩,
    ⟨S64x511, extractStridedSlice S64x511 ![0, 0] (rows v) slices_S64x512_o0_0_S64x511⟩] concatenates_S64x1_S64x511_S64x512_d1
/-- The strip moved one column left: each place holds its right neighbour, the last column its left one. -/
def rights (v : Vec F S1x64x512 .f32) : FVec F S64x512 .f32 :=
  concatenate S64x512 1 [⟨S64x511, extractStridedSlice S64x511 ![0, 1] (rows v) slices_S64x512_o0_1_S64x511⟩,
    ⟨S64x1, extractStridedSlice S64x1 ![0, 510] (rows v) slices_S64x512_o0_510_S64x1⟩] concatenates_S64x511_S64x1_S64x512_d1
/-- At each place, the least of the place and its two neighbours in the row. -/
def los (v : Vec F S1x64x512 .f32) : FVec F S64x512 .f32 := minimumf (minimumf (lefts v) (rows v)) (rights v)
/-- At each place, the greatest of the place and its two neighbours in the row. -/
def his (v : Vec F S1x64x512 .f32) : FVec F S64x512 .f32 := maximumf (maximumf (lefts v) (rows v)) (rights v)
/-- At each place, the middle one of the place and its two neighbours in the row. -/
def mids (v : Vec F S1x64x512 .f32) : FVec F S64x512 .f32 :=
  maximumf (minimumf (lefts v) (rows v)) (minimumf (maximumf (lefts v) (rows v)) (rights v))

/-- Rows 0, 1, 62 and 63 of a strip, each as a strip of one row. -/
def row0 (p : FVec F S64x512 .f32) : FVec F S1x512 .f32 := extractStridedSlice S1x512 ![0, 0] p slices_S64x512_o0_0_S1x512
@[inherit_doc row0] def row1 (p : FVec F S64x512 .f32) : FVec F S1x512 .f32 := extractStridedSlice S1x512 ![1, 0] p slices_S64x512_o1_0_S1x512
@[inherit_doc row0] def row62 (p : FVec F S64x512 .f32) : FVec F S1x512 .f32 := extractStridedSlice S1x512 ![62, 0] p slices_S64x512_o62_0_S1x512
@[inherit_doc row0] def row63 (p : FVec F S64x512 .f32) : FVec F S1x512 .f32 := extractStridedSlice S1x512 ![63, 0] p slices_S64x512_o63_0_S1x512

/-- The strip moved one row down, with the row `t` put first: each place holds its upper neighbour. -/
def ups (t : FVec F S1x512 .f32) (p : FVec F S64x512 .f32) : FVec F S64x512 .f32 :=
  concatenate S64x512 0 [⟨S1x512, t⟩, ⟨S63x512, extractStridedSlice S63x512 ![0, 0] p slices_S64x512_o0_0_S63x512⟩] concatenates_S1x512_S63x512_S64x512_d0
/-- The strip moved one row up, with the row `b` put last: each place holds its lower neighbour. -/
def downs (b : FVec F S1x512 .f32) (p : FVec F S64x512 .f32) : FVec F S64x512 .f32 :=
  concatenate S64x512 0 [⟨S63x512, extractStridedSlice S63x512 ![1, 0] p slices_S64x512_o1_0_S63x512⟩, ⟨S1x512, b⟩] concatenates_S63x512_S1x512_S64x512_d0

/-- The middle one of three strips, place by place. -/
def mid3 (a b c : FVec F S64x512 .f32) : FVec F S64x512 .f32 := maximumf (minimumf a b) (minimumf (maximumf a b) c)

/-- What is stored for a strip `v`, from the sorted row above it (`tl`, `tm`, `th`) and the one below (`bl`, `bm`, `bh`). -/
def strip (tl tm th bl bm bh : FVec F S1x512 .f32) (v : Vec F S1x64x512 .f32) : FVec F S1x64x512 .f32 :=
  shapeCast S1x64x512
    (mid3 (maximumf (maximumf (ups tl (los v)) (los v)) (downs bl (los v)))
      (mid3 (ups tm (mids v)) (mids v) (downs bm (mids v)))
      (minimumf (minimumf (ups th (his v)) (his v)) (downs bh (his v)))) shapeCasts_S64x512_S1x64x512

/-- An image's first strip, above which its own row 1 is reflected. -/
def stripFirst (v n : Vec F S1x64x512 .f32) : FVec F S1x64x512 .f32 :=
  strip (row1 (los v)) (row1 (mids v)) (row1 (his v)) (row0 (los n)) (row0 (mids n)) (row0 (his n)) v
/-- A strip `v` between two others. -/
def stripInner (p v n : Vec F S1x64x512 .f32) : FVec F S1x64x512 .f32 :=
  strip (row63 (los p)) (row63 (mids p)) (row63 (his p)) (row0 (los n)) (row0 (mids n)) (row0 (his n)) v
/-- An image's last strip, below which its own row 62 is reflected. -/
def stripLast (p v : Vec F S1x64x512 .f32) : FVec F S1x64x512 .f32 :=
  strip (row63 (los p)) (row63 (mids p)) (row63 (his p)) (row62 (los v)) (row62 (mids v)) (row62 (his v)) v

end vectors

end Cert.KernelIdeal.Hand

end
-- ==== Proof.Pieces.lean ====
/- The sixteen stores of one grid step, each as the strip arithmetic of the strips it reads. -/
module

public import proofs.«01_k».proof.Proof.Strip

@[expose] public section

set_option maxRecDepth 16384

noncomputable section

namespace Cert.KernelIdeal.Hand

open Cert.KernelIdeal Cert.KernelIdeal.Gen Idealize.ShloMosaic Idealize.SL.Sem

variable {F : FTy → Type} [FloatOps F]

/-- The in-bounds evidence of a strip of image `a` that starts at row `s`. -/
abbrev InB (a s : Nat) : Prop := ∀ k, (![a, s, 0] : Fin 3 → Nat) k + S1x64x512.size k ≤ S2x512x512.size k

theorem inB (a : Fin 2) (k : Fin 8) : InB a (64 * k) := fun i => by
  match i with
  | ⟨0, _⟩ => show a.val + 1 ≤ 2; omega
  | ⟨1, _⟩ => show 64 * k.val + 64 ≤ 512; omega
  | ⟨2, _⟩ => show 0 + 512 ≤ 512; omega

/-- The strip of image `a` that starts at row `s`. -/
abbrev at_ (a s : Nat) (h : InB a s) : Rect S2x512x512 := Rect.unit (s := S2x512x512) ![a, s, 0] S1x64x512.size h

/-- Strip `k` of image `a` of the input block, as loaded. -/
abbrev load (x : Vec F S2x512x512 .f32) (a : Fin 2) (k : Fin 8) : Vec F S1x64x512 .f32 := View.ld x (at_ a (64 * k) (inB a k))

/-- What the step stores for strip `k` of image `a`: the strip arithmetic of the strip and its neighbours in the image. -/
def stored (x : Vec F S2x512x512 .f32) (a : Fin 2) (k : Fin 8) : Vec F S1x64x512 .f32 :=
  if k = 0 then stripFirst (load x a k) (load x a (k + 1))
  else if k = 7 then stripLast (load x a (k - 1)) (load x a k)
  else stripInner (load x a (k - 1)) (load x a k) (load x a (k + 1))

/-- The store of strip `k` of image `a`: where and what. -/
def piece (x : Vec F S2x512x512 .f32) (a : Fin 2) (k : Fin 8) : View.Piece (Elt F) S2x512x512 .f32 :=
  ⟨at_ a (64 * k) (inB a k), stored x a k⟩

/-- The step's stores, last first: both images, strip by strip. -/
def pieces (x : Vec F S2x512x512 .f32) : List (View.Piece (Elt F) S2x512x512 .f32) :=
  ([1, 0] : List (Fin 2)).flatMap fun a => ([7, 6, 5, 4, 3, 2, 1, 0] : List (Fin 8)).map (piece x a)

/-- What one grid step leaves in its output block is what these stores leave. -/
theorem out_pieces (x : Vec F S2x512x512 .f32) : out0_1 x = View.canon (pieces x) := rfl

/-- The stores cover the block. -/
theorem pieces_cover (x : Vec F S2x512x512 .f32) (y : S2x512x512.Idx) : ∃ p ∈ pieces x, y ∈ p.1.set :=
  cover0_1 (stored x 1 7) (stored x 1 6) (stored x 1 5) (stored x 1 4) (stored x 1 3) (stored x 1 2) (stored x 1 1) (stored x 1 0)
    (stored x 0 7) (stored x 0 6) (stored x 0 5) (stored x 0 4) (stored x 0 3) (stored x 0 2) (stored x 0 1) (stored x 0 0) y

end Cert.KernelIdeal.Hand

end
-- ==== Proof.Window.lean ====
/- The 3x3 window with reflected edges: which places it holds, and the nine-value network of it. -/
module

public import proofs.«01_k».proof.Proof.Median
public import Idealize.ShloMosaic.Lib.Pointwise

@[expose] public section

noncomputable section

namespace Cert.Median

open Idealize.ShloMosaic

/-- The place before one of 512 places, the second place for the first. -/
def prev (h : Fin 512) : Fin 512 := ⟨if h.val = 0 then 1 else h.val - 1, by have := h.isLt; split <;> omega⟩
/-- The place after one of 512 places, the last but one for the last. -/
def next (h : Fin 512) : Fin 512 := ⟨if h.val = 511 then 510 else h.val + 1, by have := h.isLt; split <;> omega⟩

/-- The nine-value network at column `w` of three rows on top of one another. -/
def net (u v d : Fin 512 → EReal) (w : Fin 512) : EReal :=
  med9 (u (prev w)) (u w) (u (next w)) (v (prev w)) (v w) (v (next w)) (d (prev w)) (d w) (d (next w))

/-- Row `h` of image `(b, k)` of the argument, as a function of the column. -/
def argLine (x : (⟨4, ![8, 16, 512, 512]⟩ : Shape).Idx → EReal) (b : Fin 8) (k : Fin 16) (h : Fin 512) : Fin 512 → EReal :=
  fun w => x (ix4 b k h w)

end Cert.Median

end
-- ==== Proof.StripValue.lean ====
/- The strip arithmetic read at one place: the nine-value network of the place's neighbours, reflected at the edges. -/
module

public import proofs.«01_k».proof.Proof.Strip
public import proofs.«01_k».proof.Proof.Window

@[expose] public section

set_option maxRecDepth 16384

noncomputable section

namespace Cert.KernelIdeal.Hand

open Cert.KernelIdeal Cert.KernelIdeal.Gen Cert.Median Idealize.ShloMosaic Idealize.SL.Sem

variable (v : Vec Ideal S1x64x512 .f32)

theorem rows_apply (r : Fin 64) (w : Fin 512) : rows v (ix2 r w) = v (ix3 0 r w) := by
  pointwise [rows]

/-- Two reads of one array's row are equal at equal columns. -/
theorem read_col (r : Fin 64) {w w' : Fin 512} (h : w.val = w'.val) : v (ix3 0 r w) = v (ix3 0 r w') :=
  congrArg (fun w => v (ix3 0 r w)) (Fin.ext h)

/-- The left neighbour, or the right one at the first column. -/
theorem lefts_apply (r : Fin 64) (w : Fin 512) : lefts v (ix2 r w) = v (ix3 0 r (prev w)) := by
  pointwise [lefts, rows]
  split <;> exact read_col v r (by simp only [prev]; split <;> omega)

/-- The right neighbour, or the left one at the last column. -/
theorem rights_apply (r : Fin 64) (w : Fin 512) : rights v (ix2 r w) = v (ix3 0 r (next w)) := by
  pointwise [rights, rows]
  have := w.isLt
  split <;> exact read_col v r (by simp only [next]; split <;> omega)

/-- The row sorts at a place are the three-value operations of the place and its neighbours in the row. -/
theorem los_apply (r : Fin 64) (w : Fin 512) :
    los v (ix2 r w) = lo (v (ix3 0 r (prev w))) (v (ix3 0 r w)) (v (ix3 0 r (next w))) := by
  rw [← lefts_apply v, ← rows_apply v, ← rights_apply v]; rfl
@[inherit_doc los_apply] theorem his_apply (r : Fin 64) (w : Fin 512) :
    his v (ix2 r w) = hi (v (ix3 0 r (prev w))) (v (ix3 0 r w)) (v (ix3 0 r (next w))) := by
  rw [← lefts_apply v, ← rows_apply v, ← rights_apply v]; rfl
@[inherit_doc los_apply] theorem mids_apply (r : Fin 64) (w : Fin 512) :
    mids v (ix2 r w) = mid (v (ix3 0 r (prev w))) (v (ix3 0 r w)) (v (ix3 0 r (next w))) := by
  rw [← lefts_apply v, ← rows_apply v, ← rights_apply v]; rfl

/-- A row of a strip by its number, at a column. -/
theorem row_apply (p : FVec Ideal S64x512 .f32) (w : Fin 512) :
    row0 p (ix2 0 w) = p (ix2 0 w) ∧ row1 p (ix2 0 w) = p (ix2 1 w) ∧ row62 p (ix2 0 w) = p (ix2 62 w) ∧ row63 p (ix2 0 w) = p (ix2 63 w) := by
  refine ⟨?_, ?_, ?_, ?_⟩
  · pointwise [row0]
  · pointwise [row1]
  · pointwise [row62]
  · pointwise [row63]

/-- The upper neighbour is the added row at the top, and the row above elsewhere. -/
theorem ups_apply (t : FVec Ideal S1x512 .f32) (p : FVec Ideal S64x512 .f32) (r : Fin 64) (w : Fin 512) :
    ups t p (ix2 r w) = if h : r.val = 0 then t (ix2 0 w) else p (ix2 ⟨r.val - 1, by omega⟩ w) := by
  pointwise [ups]
  by_cases h : r.val = 0
  · rw [dif_pos (by omega), dif_pos h]; exact congrArg (fun i => t (ix2 i w)) (Fin.ext h)
  · rw [dif_neg (by omega), dif_neg h]

/-- The lower neighbour is the added row at the bottom, and the row below elsewhere. -/
theorem downs_apply (b : FVec Ideal S1x512 .f32) (p : FVec Ideal S64x512 .f32) (r : Fin 64) (w : Fin 512) :
    downs b p (ix2 r w) = if h : r.val = 63 then b (ix2 0 w) else p (ix2 ⟨r.val + 1, by omega⟩ w) := by
  pointwise [downs]
  by_cases h : r.val = 63
  · rw [dif_neg (by omega), dif_pos h]; exact congrArg (fun i => b (ix2 i w)) (Fin.ext (by show r.val - 63 = 0; omega))
  · rw [dif_pos (by omega), dif_neg h]; exact congrArg (fun i => p (ix2 i w)) (Fin.ext (Nat.add_comm ..))

/-- The row `r` of a strip as a function of the column. -/
def line (r : Fin 64) : Fin 512 → EReal := fun w => v (ix3 0 r w)

/-- The three vectors of one row hold the row sorts of the row `T`. -/
def Sorts (l m h : FVec Ideal S1x512 .f32) (T : Fin 512 → EReal) : Prop := ∀ w,
  l (ix2 0 w) = lo (T (prev w)) (T w) (T (next w)) ∧ m (ix2 0 w) = mid (T (prev w)) (T w) (T (next w))
    ∧ h (ix2 0 w) = hi (T (prev w)) (T w) (T (next w))

/-- The strip arithmetic at a place is the network on the rows above, at and below the place, where the added rows stand
    for the rows above the first and below the last. -/
theorem strip_apply {tl tm th bl bm bh : FVec Ideal S1x512 .f32} {T B : Fin 512 → EReal} (ht : Sorts tl tm th T)
    (hb : Sorts bl bm bh B) (r : Fin 64) (w : Fin 512) :
    strip tl tm th bl bm bh v (ix3 0 r w) =
      net (if h : r.val = 0 then T else line v ⟨r.val - 1, by omega⟩) (line v r)
        (if h : r.val = 63 then B else line v ⟨r.val + 1, by omega⟩) w := by
  pointwise [strip, mid3]
  simp only [ups_apply, downs_apply, los_apply, mids_apply, his_apply, (ht w).1, (ht w).2.1, (ht w).2.2, (hb w).1,
    (hb w).2.1, (hb w).2.2]
  by_cases h0 : r.val = 0 <;> by_cases h1 : r.val = 63 <;> simp only [h0, h1, dite_true, dite_false, net, line] <;> rfl

theorem sorts_row0 : Sorts (row0 (los v)) (row0 (mids v)) (row0 (his v)) (line v 0) := fun w =>
  ⟨(row_apply _ w).1.trans (los_apply v 0 w), (row_apply _ w).1.trans (mids_apply v 0 w), (row_apply _ w).1.trans (his_apply v 0 w)⟩
theorem sorts_row1 : Sorts (row1 (los v)) (row1 (mids v)) (row1 (his v)) (line v 1) := fun w =>
  ⟨(row_apply _ w).2.1.trans (los_apply v 1 w), (row_apply _ w).2.1.trans (mids_apply v 1 w), (row_apply _ w).2.1.trans (his_apply v 1 w)⟩
theorem sorts_row62 : Sorts (row62 (los v)) (row62 (mids v)) (row62 (his v)) (line v 62) := fun w =>
  ⟨(row_apply _ w).2.2.1.trans (los_apply v 62 w), (row_apply _ w).2.2.1.trans (mids_apply v 62 w),
    (row_apply _ w).2.2.1.trans (his_apply v 62 w)⟩
theorem sorts_row63 : Sorts (row63 (los v)) (row63 (mids v)) (row63 (his v)) (line v 63) := fun w =>
  ⟨(row_apply _ w).2.2.2.trans (los_apply v 63 w), (row_apply _ w).2.2.2.trans (mids_apply v 63 w),
    (row_apply _ w).2.2.2.trans (his_apply v 63 w)⟩

end Cert.KernelIdeal.Hand

end
-- ==== Proof.Block.lean ====
/- What one grid step leaves in its output block: at every place the network of the nine reflected neighbours in the input block. -/
module

public import proofs.«01_k».proof.Proof.Pieces
public import proofs.«01_k».proof.Proof.StripValue
public import Idealize.ShloMosaic.Lib.Pipeline.ValueKit

@[expose] public section

set_option maxRecDepth 16384

noncomputable section

namespace Cert.KernelIdeal.Hand

open Cert.KernelIdeal Cert.KernelIdeal.Gen Cert.Median Idealize.ShloMosaic Idealize.SL.Sem

/-- The row `h` of image `a` of a stack of images, as a function of the column. -/
def imgLine {n : Nat} (x : (⟨3, ![n, 512, 512]⟩ : Shape).Idx → EReal) (a : Fin n) (h : Fin 512) : Fin 512 → EReal := fun w => x (ix3 a h w)

/-- A stack of images with every place replaced by the network of its nine reflected neighbours. -/
def filtered {n : Nat} (x : (⟨3, ![n, 512, 512]⟩ : Shape).Idx → EReal) : (⟨3, ![n, 512, 512]⟩ : Shape).Idx → EReal := fun y =>
  net (imgLine x (y 0) (prev (y 1))) (imgLine x (y 0) (y 1)) (imgLine x (y 0) (next (y 1))) (y 2)

variable (x : Vec Ideal S2x512x512 .f32) (a : Nat)

theorem InB.image {a s : Nat} (h : InB a s) : a < 2 := by have := h 0; simp at this; omega
theorem InB.row {a s : Nat} (h : InB a s) : s + 64 ≤ 512 := by have := h 1; simpa using this

/-- A row of a loaded strip is the block's row that many rows further down. -/
theorem line_ld {s : Nat} (h : InB a s) (r : Fin 64) (q : Fin 512) (e : q.val = s + r.val) :
    line (View.ld x (at_ a s h)) r = imgLine x ⟨a, h.image⟩ q := by
  funext w
  refine congrArg x (funext fun k => Fin.ext ?_)
  match k with
  | ⟨0, _⟩ => show a + 1 * 0 = a; omega
  | ⟨1, _⟩ => show s + 1 * r.val = q.val; omega
  | ⟨2, _⟩ => show 0 + 1 * w.val = w.val; omega

/-- The place of a strip's own index in the block. -/
theorem emb_at {s : Nat} (h : InB a s) (r : Fin 64) (w : Fin 512) :
    (at_ a s h).emb (ix3 0 r w) = ix3 (⟨a, h.image⟩ : Fin 2) (⟨s + r.val, by have := h.row; omega⟩ : Fin 512) w := by
  refine funext fun k => Fin.ext ?_
  match k with
  | ⟨0, _⟩ => show a + 1 * 0 = a; omega
  | ⟨1, _⟩ => show s + 1 * r.val = s + r.val; omega
  | ⟨2, _⟩ => show 0 + 1 * w.val = w.val; omega

/-- A strip between two others holds the filtered block's rows, once the added rows are the block's rows above and below it. -/
theorem strip_filtered {s : Nat} (h : InB a s) {tl tm th bl bm bh : FVec Ideal S1x512 .f32}
    (ht : Sorts tl tm th (imgLine x ⟨a, h.image⟩ (prev ⟨s, by have := h.row; omega⟩)))
    (hb : Sorts bl bm bh (imgLine x ⟨a, h.image⟩ (next ⟨s + 63, by have := h.row; omega⟩))) (y : S1x64x512.Idx) :
    strip tl tm th bl bm bh (View.ld x (at_ a s h)) y = filtered x ((at_ a s h).emb y) := by
  obtain ⟨r, w, rfl⟩ : ∃ (r : Fin 64) (w : Fin 512), y = ix3 (0 : Fin 1) r w := by
    refine ⟨y 1, y 2, (eq_ix3 y).trans ?_⟩
    congr 1
    exact Subsingleton.elim (α := Fin 1) _ _
  have hs := h.row
  rw [strip_apply _ ht hb, emb_at]
  show _ = net (imgLine x ⟨a, h.image⟩ (prev ⟨s + r.val, _⟩)) (imgLine x ⟨a, h.image⟩ ⟨s + r.val, _⟩)
    (imgLine x ⟨a, h.image⟩ (next ⟨s + r.val, _⟩)) w
  congr 1
  · split
    · next h0 => simp only [h0, Nat.add_zero]
    · next h0 => exact line_ld x a h _ _ (by simp only [prev]; split <;> omega)
  · exact line_ld x a h _ _ rfl
  · split
    · next h1 => simp only [h1]
    · next h1 => exact line_ld x a h _ _ (by simp only [next]; split <;> omega)

/-- A strip between two others, above and below which lie its neighbours' nearest rows. -/
theorem inner_filtered {p s n : Nat} (hp : InB a p) (hs : InB a s) (hn : InB a n) (ep : p + 64 = s) (en : s + 64 = n)
    (y : S1x64x512.Idx) :
    stripInner (View.ld x (at_ a p hp)) (View.ld x (at_ a s hs)) (View.ld x (at_ a n hn)) y = filtered x ((at_ a s hs).emb y) := by
  have := hn.row
  refine strip_filtered x a hs ?_ ?_ y
  · rw [← line_ld x a hp 63 _ (by simp only [prev]; split <;> simp <;> omega)]; exact sorts_row63 _
  · rw [← line_ld x a hn 0 _ (by simp only [next]; split <;> simp <;> omega)]; exact sorts_row0 _

/-- The first strip, above which its own row 1 stands. -/
theorem first_filtered {s n : Nat} (hs : InB a s) (hn : InB a n) (es : s = 0) (en : s + 64 = n) (y : S1x64x512.Idx) :
    stripFirst (View.ld x (at_ a s hs)) (View.ld x (at_ a n hn)) y = filtered x ((at_ a s hs).emb y) := by
  subst es en
  refine strip_filtered x a hs ?_ ?_ y
  · rw [← line_ld x a hs 1 _ (by simp [prev])]; exact sorts_row1 _
  · rw [← line_ld x a hn 0 _ (by simp [next])]; exact sorts_row0 _

/-- The last strip, below which its own row 62 stands. -/
theorem last_filtered {p s : Nat} (hp : InB a p) (hs : InB a s) (ep : p + 64 = s) (es : s = 448) (y : S1x64x512.Idx) :
    stripLast (View.ld x (at_ a p hp)) (View.ld x (at_ a s hs)) y = filtered x ((at_ a s hs).emb y) := by
  subst es
  refine strip_filtered x a hs ?_ ?_ y
  · rw [← line_ld x a hp 63 _ (by simp [prev]; omega)]; exact sorts_row63 _
  · rw [← line_ld x a hs 62 _ (by simp [next])]; exact sorts_row62 _

/-- Every store holds its part of the filtered block. -/
theorem stored_filtered (i : Fin 2) (k : Fin 8) (y : S1x64x512.Idx) :
    stored x i k y = filtered x ((at_ i (64 * k) (inB i k)).emb y) := by
  unfold stored
  have hk : k ≠ 0 → (k - 1 : Fin 8).val + 1 = k.val := by revert k; decide
  have hk' : k ≠ 7 → (k + 1 : Fin 8).val = k.val + 1 := by revert k; decide
  split
  · next h => subst h; exact first_filtered x _ _ _ rfl rfl y
  · next h =>
    split
    · next h' => subst h'; exact last_filtered x _ _ _ rfl rfl y
    · next h' => exact inner_filtered x _ _ _ _ (by have := hk h; omega) (by have := hk' h'; omega) y

/-- One grid step's output block is its input block filtered. -/
theorem out_filtered : out0_1 x = filtered x := by
  funext y
  rw [out_pieces]
  refine View.canon_apply_of_pieces (Val := Elt Ideal) (S := S2x512x512) (e := .f32) (filtered x) _ (fun p hp => ?_) y (pieces_cover x y)
  simp only [pieces, List.mem_flatMap, List.mem_map] at hp
  obtain ⟨i, -, k, -, rfl⟩ := hp
  exact stored_filtered x i k

end Cert.KernelIdeal.Hand

end
-- ==== Proof.Array.lean ====
/- From the blocks to the whole output array: it is the input array filtered. -/
module

public import proofs.«01_k».proof.Proof.Block
public import Idealize.ShloMosaic.Lib.Pipeline.ValueKit

@[expose] public section

set_option maxRecDepth 16384

noncomputable section

namespace Cert.KernelIdeal.Hand

open Cert.KernelIdeal Cert.KernelIdeal.Gen Cert.Median Idealize.ShloMosaic Idealize.ShloMosaic.TcCoe Idealize.SL.Sem
open Idealize.ShloMosaic.Pipeline (Dat)

variable (m : (ℓ : Loc nD τ sig) → Buf (Elt Ideal) ℓ)

/-- At grid point `t` both windows stand at the images `2 t` and `2 t + 1`. -/
theorem idx : ∀ t : Fin cfg0.N, win0_0.index t = ![t.val, 0, 0] ∧ win0_1.index t = ![t.val, 0, 0] :=
  (by decide +kernel : ∀ t : Fin grid0.N, _)

/-- The image of the array that image `a` of the block at grid point `t` is. -/
def image (t : Fin cfg0.N) (a : Fin 2) : Fin 128 := ⟨2 * t.val + a.val, by have : t.val < 64 := t.isLt; omega⟩

/-- A row of the input block at grid point `t` is the array's row. -/
theorem block_line (c : Dev nD) (t : Fin cfg0.N) (a : Fin 2) (h : Fin 512) :
    imgLine (n := 2) (iblk m c 0 t) a h = imgLine (n := 128) (V m c main_v0) (image t a) h := by
  funext w
  show iblk m c 0 t (ix3 a h w) = V m c main_v0 (ix3 (image t a) h w)
  simp only [image]
  blk_ext [iblk, idx t]

/-- The launch's output array is its input array with every place replaced by the network of its nine neighbours. -/
theorem array_filtered (c : Dev nD) :
    (dats m 0 c).arrAt 1 cfg0.N = filtered (n := 128) (V m c main_v0) := by
  refine (dats m 0 c).arrAt_eq_of_covers 1 _ (by decide +kernel) fun t hf y => ?_
  blk_simp
  rw [after0_1, out_filtered]
  have e : (win0_1.blk t).view.emb y = ix3 (image t (y 0)) (y 1 : Fin 512) (y 2 : Fin 512) := by
    simp only [image]
    blk_ext [idx t]
  rw [e]
  have key : ∀ (a : Fin 2) (h w : Fin 512),
      net (imgLine (n := 2) (iblk m c 0 t) a (prev h)) (imgLine (n := 2) (iblk m c 0 t) a h) (imgLine (n := 2) (iblk m c 0 t) a (next h)) w =
      net (imgLine (n := 128) (V m c main_v0) (image t a) (prev h)) (imgLine (n := 128) (V m c main_v0) (image t a) h)
        (imgLine (n := 128) (V m c main_v0) (image t a) (next h)) w := fun a h w => by
    rw [block_line, block_line, block_line]
  exact key (y 0) (y 1) (y 2)

/-- The launch's input array is the argument with its two leading axes as one. -/
theorem entry (c : Dev nD) :
    V m c main_v0 = shapeCast S128x512x512 (m ((c.tc : Thread nD τ).loc main_arg0)) shapeCasts_S8x16x512x512_S128x512x512 := by
  show StableHlo.after (List.flatten [hostOps0]) (fun b => m (c, b)) (Proc.devRef .tc main_v0) = _
  simp only [List.flatten_cons, List.flatten_nil, List.append_nil, hostOps0, StableHlo.after_cons, StableHlo.after_nil]
  rw [StableHlo.reshape_result]
  rfl

/-- Where image `(b, k)` of the argument lies among the 128 images. -/
def imageOf (b : Fin 8) (k : Fin 16) : Fin 128 := ⟨b.val * 16 + k.val, by omega⟩

/-- The argument with its two leading axes as one, read at an image's place. -/
theorem merged_apply (x : S8x16x512x512.Idx → EReal) (b : Fin 8) (k : Fin 16) (h w : Fin 512) :
    shapeCast S128x512x512 x shapeCasts_S8x16x512x512_S128x512x512 (ix3 (imageOf b k) h w) = x (ix4 b k h w) := by
  refine congrArg x (Shape.reshapeEquiv_eq_of_vals _ _ _ _ _ (rowMajor_val4 _ 4194304 262144 512 rfl rfl rfl)
    (rowMajor_val3 _ 262144 512 rfl rfl) ?_)
  show b.val * 4194304 + k.val * 262144 + h.val * 512 + w.val = (b.val * 16 + k.val) * 262144 + h.val * 512 + w.val
  omega

/-- The output array with its leading axis as two, read at a place. -/
theorem split_apply (x : S128x512x512.Idx → EReal) (b : Fin 8) (k : Fin 16) (h w : Fin 512) :
    shapeCast S8x16x512x512 x shapeCasts_S128x512x512_S8x16x512x512 (ix4 b k h w) = x (ix3 (imageOf b k) h w) := by
  refine congrArg x (Shape.reshapeEquiv_eq_of_vals _ _ _ _ _ (rowMajor_val3 _ 262144 512 rfl rfl)
    (rowMajor_val4 _ 4194304 262144 512 rfl rfl rfl) ?_)
  show (b.val * 16 + k.val) * 262144 + h.val * 512 + w.val = b.val * 4194304 + k.val * 262144 + h.val * 512 + w.val
  omega

/-- The kernel's result read at one place: the network of the nine reflected neighbours in the argument. -/
theorem result_apply (c : Dev nD) (b : Fin 8) (k : Fin 16) (h w : Fin 512) :
    shapeCast S8x16x512x512 ((dats m 0 c).arrAt 1 cfg0.N) shapeCasts_S128x512x512_S8x16x512x512 (ix4 b k h w) =
      net (argLine (m ((c.tc : Thread nD τ).loc main_arg0)) b k (prev h)) (argLine (m ((c.tc : Thread nD τ).loc main_arg0)) b k h)
        (argLine (m ((c.tc : Thread nD τ).loc main_arg0)) b k (next h)) w := by
  rw [array_filtered, entry]
  generalize m ((c.tc : Thread nD τ).loc main_arg0) = x
  have hl : ∀ h', imgLine (n := 128) (shapeCast S128x512x512 x shapeCasts_S8x16x512x512_S128x512x512) (imageOf b k) h' = argLine x b k h' :=
    fun h' => funext fun w' => merged_apply x b k h' w'
  rw [← hl, ← hl, ← hl]
  exact split_apply _ b k h w

end Cert.KernelIdeal.Hand

end
-- ==== Proof.RefStages.lean ====
/- The reference's result in three stages: the padded argument, the stack of the nine shifted views, the sort. -/
module

public import proofs.«01_k».proof.Proof.Gen.ReferenceIdeal.Run
public import proofs.«01_k».proof.Proof.Window

@[expose] public section

set_option maxRecDepth 16384

noncomputable section

namespace Cert.ReferenceIdeal.Hand

open Cert.ReferenceIdeal Cert.ReferenceIdeal.Gen Cert.Median Idealize.ShloMosaic Idealize.ShloMosaic.TcCoe Idealize.SL.Sem

section stages

variable {F : FTy → Type} [FloatOps F]

/-- The argument with its row 1 put above the first row. -/
def padTop (x : S8x16x512x512.Idx → F .f32) : S8x16x513x512.Idx → F .f32 :=
  concatenate S8x16x513x512 2 [⟨S8x16x1x512, Host.reverse [2] (extractStridedSlice S8x16x1x512 ![0, 0, 1, 0] x slices_S8x16x512x512_S8x16x1x512_0_0_1_0)⟩,
    ⟨S8x16x512x512, x⟩] concatenates_S8x16x1x512_S8x16x512x512_S8x16x513x512_d2
/-- And its last row but one put below the last row. -/
def padRows (x : S8x16x512x512.Idx → F .f32) : S8x16x514x512.Idx → F .f32 :=
  concatenate S8x16x514x512 2 [⟨S8x16x513x512, padTop x⟩,
    ⟨S8x16x1x512, Host.reverse [2] (extractStridedSlice S8x16x1x512 ![0, 0, 511, 0] (padTop x) slices_S8x16x513x512_S8x16x1x512_0_0_511_0)⟩]
    concatenates_S8x16x513x512_S8x16x1x512_S8x16x514x512_d2
/-- And column 1 of that put left of the first column. -/
def padLeft (x : S8x16x512x512.Idx → F .f32) : S8x16x514x513.Idx → F .f32 :=
  concatenate S8x16x514x513 3 [⟨S8x16x514x1, Host.reverse [3] (extractStridedSlice S8x16x514x1 ![0, 0, 0, 1] (padRows x) slices_S8x16x514x512_S8x16x514x1_0_0_0_1)⟩,
    ⟨S8x16x514x512, padRows x⟩] concatenates_S8x16x514x1_S8x16x514x512_S8x16x514x513_d3
/-- The argument padded on all four sides by reflection. -/
def padded (x : S8x16x512x512.Idx → F .f32) : S8x16x514x514.Idx → F .f32 :=
  concatenate S8x16x514x514 3 [⟨S8x16x514x513, padLeft x⟩,
    ⟨S8x16x514x1, Host.reverse [3] (extractStridedSlice S8x16x514x1 ![0, 0, 0, 511] (padLeft x) slices_S8x16x514x513_S8x16x514x1_0_0_0_511)⟩]
    concatenates_S8x16x514x513_S8x16x514x1_S8x16x514x514_d3

/-- One shifted view of the padded argument, with a unit axis to stack along. -/
def view (p : S8x16x514x514.Idx → F .f32) (o : Fin 4 → Nat) (h : S8x16x514x514.Slices o S8x16x512x512) : S8x16x512x512x1.Idx → F .f32 :=
  broadcastInDim S8x16x512x512x1 ![0, 1, 2, 3] bcast_S8x16x512x512_S8x16x512x512x1_0_1_2_3 (extractStridedSlice S8x16x512x512 o p h)

/-- The nine shifted views stacked along a fifth axis. -/
def stacked (p : S8x16x514x514.Idx → F .f32) : S8x16x512x512x9.Idx → F .f32 :=
  concatenate S8x16x512x512x9 4 [
    ⟨S8x16x512x512x1, view p ![0, 0, 0, 0] slices_S8x16x514x514_S8x16x512x512_0_0_0_0⟩,
    ⟨S8x16x512x512x1, view p ![0, 0, 0, 1] slices_S8x16x514x514_S8x16x512x512_0_0_0_1⟩,
    ⟨S8x16x512x512x1, view p ![0, 0, 0, 2] slices_S8x16x514x514_S8x16x512x512_0_0_0_2⟩,
    ⟨S8x16x512x512x1, view p ![0, 0, 1, 0] slices_S8x16x514x514_S8x16x512x512_0_0_1_0⟩,
    ⟨S8x16x512x512x1, view p ![0, 0, 1, 1] slices_S8x16x514x514_S8x16x512x512_0_0_1_1⟩,
    ⟨S8x16x512x512x1, view p ![0, 0, 1, 2] slices_S8x16x514x514_S8x16x512x512_0_0_1_2⟩,
    ⟨S8x16x512x512x1, view p ![0, 0, 2, 0] slices_S8x16x514x514_S8x16x512x512_0_0_2_0⟩,
    ⟨S8x16x512x512x1, view p ![0, 0, 2, 1] slices_S8x16x514x514_S8x16x512x512_0_0_2_1⟩,
    ⟨S8x16x512x512x1, view p ![0, 0, 2, 2] slices_S8x16x514x514_S8x16x512x512_0_0_2_2⟩]
    concatenates_S8x16x512x512x1_S8x16x512x512x1_S8x16x512x512x1_S8x16x512x512x1_S8x16x512x512x1_S8x16x512x512x1_S8x16x512x512x1_S8x16x512x512x1_S8x16x512x512x1_S8x16x512x512x9_d4

/-- The fifth of the nine stacked values in sorted order, at every place. -/
def middle (s : S8x16x512x512x9.Idx → F .f32) : S8x16x512x512.Idx → F .f32 :=
  shapeCast S8x16x512x512 (extractStridedSlice S8x16x512x512x1 ![0, 0, 0, 0, 4] (Host.sort S8x16x512x512x9 4 comparator_f32_d4 s)
    slices_S8x16x512x512x9_S8x16x512x512x1_0_0_0_0_4) shapeCasts_S8x16x512x512x1_S8x16x512x512

/-- The reference's result is the sorted middle of the stack of the padded argument's views. -/
theorem result_stages (m : (ℓ : Loc nD τ sig) → Buf (Elt F) ℓ) (c : Dev nD) :
    Value.res_out0 m c = middle (stacked (padded (m ((c.tc : Thread nD τ).loc main_arg0)))) := rfl

end stages

end Cert.ReferenceIdeal.Hand

end
-- ==== Proof.RefValue.lean ====
/- The reference's result read at one place: the nine-value network of the reflected neighbours. -/
module

public import proofs.«01_k».proof.Proof.RefStages

@[expose] public section

set_option maxRecDepth 16384

noncomputable section

namespace Cert.ReferenceIdeal.Hand

open Cert.ReferenceIdeal Cert.ReferenceIdeal.Gen Cert.Median Idealize.ShloMosaic Idealize.ShloMosaic.TcCoe Idealize.SL.Sem

/-- The place in the argument that a place of the padded axis shows. -/
def source (i : Fin 514) : Fin 512 :=
  ⟨if i.val = 0 then 1 else if i.val = 513 then 510 else i.val - 1, by have := i.isLt; split <;> [omega; (split <;> omega)]⟩

variable (x : S8x16x512x512.Idx → Ideal .f32)

/-- Padded rows show the argument's rows, reflected at the edges. -/
theorem padRows_apply (b : Fin 8) (k : Fin 16) (i : Fin 514) (w : Fin 512) :
    padRows x (ix4 b k i w) = x (ix4 b k (source i) w) := by
  pointwise [padRows, padTop]
  simp only [List.mem_singleton, reduceIte, Fin.reduceEq, Nat.reduceEqDiff, Nat.reduceBEq, OfNat.zero_ne_ofNat, OfNat.one_ne_ofNat]
  have := i.isLt
  split
  · split <;> exact congrArg (fun i => x (ix4 b k i w)) (Fin.ext (by simp only [source]; split <;> (try split) <;> simp <;> omega))
  · exact congrArg (fun i => x (ix4 b k i w)) (Fin.ext (by simp only [source]; split <;> (try split) <;> simp <;> omega))

/-- The padded argument shows the argument, reflected at the edges. -/
theorem padded_apply (b : Fin 8) (k : Fin 16) (i j : Fin 514) :
    padded x (ix4 b k i j) = x (ix4 b k (source i) (source j)) := by
  pointwise [padded, padLeft]
  simp only [List.mem_singleton, reduceIte, Fin.reduceEq, padRows_apply]
  have := j.isLt
  split
  · split <;> exact congrArg (fun j => x (ix4 b k (source i) j)) (Fin.ext (by simp only [source]; split <;> (try split) <;> simp <;> omega))
  · exact congrArg (fun j => x (ix4 b k (source i) j)) (Fin.ext (by simp only [source]; split <;> (try split) <;> simp <;> omega))

/-- Place `q` of the stack along the fifth axis is the view shifted by `q / 3` rows and `q % 3` columns. -/
theorem stacked_apply (p : S8x16x514x514.Idx → Ideal .f32) (b : Fin 8) (k : Fin 16) (h w : Fin 512) (q : Fin 9) :
    stacked p (ix5 b k h w q) = p (ix4 b k ⟨q.val / 3 + h.val, by omega⟩ ⟨q.val % 3 + w.val, by omega⟩) := by
  fin_cases q <;> pointwise [stacked, view]

/-- Exchanging a value equal to `z` for `z`, and one that differs from itself for anything, changes no value. -/
theorem normal_eq (a z n : Ideal .f32) :
    Scalar.select (FloatOps.cmpf .une a a) n (Scalar.select (FloatOps.cmpf .oeq a z) z a) = a := by
  simp only [Ideal.cmpf_def, Ideal.cmp, Scalar.select, ne_eq, not_true_eq_false, decide_false]
  by_cases h : a = z <;> simp [h]

/-- The comparison the reference sorts by is "less than". -/
theorem comparator_eq (l r : Ideal .f32) : (comparator_f32_d4 (F := Ideal) l r == 1#1) = decide ((l : EReal) < r) := by
  unfold comparator_f32_d4
  dsimp only
  rw [normal_eq, normal_eq]
  show (BitVec.ofBool (decide ((l : EReal) < r)) == 1#1) = _
  cases decide ((l : EReal) < r) <;> rfl

/-- The middle of a stack at a place is the sorted nine values' fifth. -/
theorem middle_apply (s : S8x16x512x512x9.Idx → Ideal .f32) (b : Fin 8) (k : Fin 16) (h w : Fin 512) :
    middle s (ix4 b k h w) = s (ix5 b k h w (sortedFrom (fun q q' => decide ((s (ix5 b k h w q) : EReal) < s (ix5 b k h w q'))) 4)) := by
  pointwise [middle]
  have ha : ∀ q : Fin 9, (ix5 b k h w (4 : Fin 9) : S8x16x512x512x9.Idx).along (4 : Fin 5) q = ix5 b k h w q := fun q => by
    funext i
    match i with
    | ⟨0, _⟩ => rfl | ⟨1, _⟩ => rfl | ⟨2, _⟩ => rfl | ⟨3, _⟩ => rfl | ⟨4, _⟩ => rfl
  unfold Host.sort
  rw [dif_pos (show 4 < S8x16x512x512x9.rank by decide)]
  refine (congrArg s (ha _)).trans ?_
  have key : ∀ q q' : Fin 9,
      (comparator_f32_d4 (s ((ix5 b k h w (4 : Fin 9) : S8x16x512x512x9.Idx).along (4 : Fin 5) q))
        (s ((ix5 b k h w (4 : Fin 9) : S8x16x512x512x9.Idx).along (4 : Fin 5) q')) == 1#1)
      = decide (s (ix5 b k h w q) < s (ix5 b k h w q')) := fun q q' => by rw [ha, ha, comparator_eq]
  exact congrArg (fun f : Fin 9 → Fin 9 → Bool => s (ix5 b k h w (sortedFrom f 4))) (funext fun q => funext fun q' => key q q')

/-- A place of the padded axis, by its distance `d` from the place before `i`, shows the place before `i`, `i` or the one after. -/
theorem source_shift (d : Nat) (hd : d ≤ 2) (i : Fin 512) (hi : d + i.val < 514) :
    source ⟨d + i.val, hi⟩ = if d = 0 then prev i else if d = 1 then i else next i := by
  have := i.isLt
  obtain rfl | rfl | rfl : d = 0 ∨ d = 1 ∨ d = 2 := by omega
  all_goals
    simp only [reduceIte, Nat.reduceEqDiff, OfNat.ofNat_ne_zero, OfNat.ofNat_ne_one, one_ne_zero]
    refine Fin.ext ?_
    simp only [source, prev, next]
    (repeat' split) <;> omega

/-- The reference's result at a place is the network of the nine reflected neighbours in the argument. -/
theorem result_apply (b : Fin 8) (k : Fin 16) (h w : Fin 512) :
    middle (stacked (padded x)) (ix4 b k h w) = net (argLine x b k (prev h)) (argLine x b k h) (argLine x b k (next h)) w := by
  rw [middle_apply]
  refine (sorted_eq_med9 fun q => stacked (padded x) (ix5 b k h w q)).trans ?_
  simp (disch := decide) only [stacked_apply, padded_apply, source_shift]
  rfl

end Cert.ReferenceIdeal.Hand

end
-- ==== Proof.lean ====
/- The certificate: the strip-wise 3x3 median kernel against the sort of the nine reflected neighbours. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Array
public import proofs.«01_k».proof.Proof.RefValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference terminates with its argument unchanged and, having no semaphore, with every counter at zero. -/
theorem frame_ref : Cert.quiescent_ReferenceIdeal := fun m g _ =>
  (θ_run _ _ _).mono (fun r h => ⟨fun c => (h c).2, sem_eq_zero_of_no_sems rfl r.2⟩) (Cert.ReferenceIdeal.Value.run m g)

/-- The kernel and the reference end with equal results when their arguments are equal: at every place both hold the
    nine-value network of the reflected neighbours. -/
theorem value : Cert.algebraic_KernelIdeal_ReferenceIdeal := fun m g m' g' _ hm => by
  refine ⟨_, Cert.KernelIdeal.Hand.run m g, (θ_run _ _ _).mono (fun r h c => ⟨(h c).1.trans ?_, (h c).2⟩)
    (Cert.ReferenceIdeal.Value.run m' g')⟩
  refine (Cert.ReferenceIdeal.Hand.result_stages m' c).trans ?_
  rw [hm c]
  funext y
  obtain ⟨b, k, h, w, rfl⟩ : ∃ (b : Fin 8) (k : Fin 16) (h w : Fin 512), y = ix4 b k h w := ⟨y 0, y 1, y 2, y 3, eq_ix4 y⟩
  exact (Cert.ReferenceIdeal.Hand.result_apply _ b k h w).trans (Cert.KernelIdeal.Hand.result_apply m c b k h w).symm

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ref, trivial, value⟩

end Cert.Proof

end
